-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clamp_idle [hPre_clamp_idle : Cert.Pre_clamp_idle.Facts] (m : (ℓ : Loc Cert.KernelIdeal.nD Cert.KernelIdeal.τ Cert.KernelIdeal.sig) → Buf (Elt Ideal) ℓ) : Prop :=
  ∀ c : Dev Cert.KernelIdeal.nD,
    (Cert.Pre_clamp_idle.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clamp_idle [hPre_clamp_idle : Cert.Pre_clamp_idle.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clamp_idle.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_clamp_idle [hKernelIdeal : Cert.KernelIdeal.Facts] [hPre_clamp_idle : Cert.Pre_clamp_idle.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clamp_idle m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_clamp_idle [hReferenceIdeal : Cert.ReferenceIdeal.Facts] [hPre_clamp_idle : Cert.Pre_clamp_idle.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clamp_idle m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "log_2" .f32 0x3F317218#32 ((Real.log 2 : ℝ) : EReal)

def algebraic_KernelIdeal_ReferenceIdeal_pre_clamp_idle [hKernelIdeal : Cert.KernelIdeal.Facts] [hReferenceIdeal : Cert.ReferenceIdeal.Facts] [hPre_clamp_idle : Cert.Pre_clamp_idle.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clamp_idle m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_clamp_idle : Cert.Pre_clamp_idle.Facts),
    quiescent_Kernel (hKernel := hKernel)
    ∧ quiescent_KernelIdeal (hKernelIdeal := hKernelIdeal)
    ∧ quiescent_KernelIdeal_pre_clamp_idle (hKernelIdeal := hKernelIdeal) (hPre_clamp_idle := hPre_clamp_idle)
    ∧ quiescent_ReferenceIdeal (hReferenceIdeal := hReferenceIdeal)
    ∧ quiescent_ReferenceIdeal_pre_clamp_idle (hReferenceIdeal := hReferenceIdeal) (hPre_clamp_idle := hPre_clamp_idle)
    ∧ preserves_Kernel_KernelIdeal
    ∧ algebraic_KernelIdeal_ReferenceIdeal_pre_clamp_idle (hKernelIdeal := hKernelIdeal) (hReferenceIdeal := hReferenceIdeal) (hPre_clamp_idle := hPre_clamp_idle)
-- ==== Pre_clamp_idle.lean ====
abbrev S2000000x128 : Shape := ⟨2, ![2000000, 128]⟩
abbrev S128x128 : Shape := ⟨2, ![128, 128]⟩
abbrev S128 : Shape := ⟨1, ![128]⟩
abbrev S128x1 : Shape := ⟨2, ![128, 1]⟩
abbrev S2000000 : Shape := ⟨1, ![2000000]⟩
abbrev S1x128 : Shape := ⟨2, ![1, 128]⟩
abbrev S_ : Shape := ⟨0, ![]⟩

class Facts : Prop where
  bcast_S128_S1x128_1 : S128.BroadcastsInDim S1x128 (![1] : Fin 1 → Fin S1x128.rank)
  bcast_S1x128_S2000000x128_0_1 : S1x128.BroadcastsInDim S2000000x128 (![0, 1] : Fin 2 → Fin S2000000x128.rank)
  bcast_S_S2000000x128 : S_.BroadcastsInDim S2000000x128 (![] : Fin 0 → Fin S2000000x128.rank)
  reducesTo_S2000000x128_S_d0_1 : S2000000x128.ReducesTo [0, 1] S_
  h_S_ : 0 < S_.numel
  dot_S2000000x128_S128x128_S2000000x128_1_0_0_1_n_n_wf : DotDims.WF S2000000x128 S128x128 S2000000x128 [1] [0] [0] [1] [] []

variable [Facts]

def dot_S2000000x128_S128x128_S2000000x128_1_0_0_1_n_n : DotDims S2000000x128 S128x128 S2000000x128 where
  lhsContracting := [1]
  rhsContracting := [0]
  lhsNonContracting := [0]
  rhsNonContracting := [1]
  lhsBatch := []
  rhsBatch := []
  wf := dot_S2000000x128_S128x128_S2000000x128_1_0_0_1_n_n_wf
def fn {F : FTy → Type} [FloatOps F] (main_arg0 : FVec F S2000000x128 .f32) (main_arg1 : FVec F S128x128 .f32) (main_arg2 : FVec F S128 .f32) (main_arg3 : FVec F S128x1 .f32) (main_arg4 : IVec S2000000 32) : IVec S_ 1 :=
  let main_v0 : FVec F S2000000x128 .f32 := (fun l r => Host.dotGeneral dot_S2000000x128_S128x128_S2000000x128_1_0_0_1_n_n none l r) main_arg0 main_arg1
  let main_v1 : FVec F S1x128 .f32 := broadcastInDim S1x128 ![1] bcast_S128_S1x128_1 main_arg2
  let main_v2 : FVec F S2000000x128 .f32 := broadcastInDim S2000000x128 ![0, 1] bcast_S1x128_S2000000x128_0_1 main_v1
  let main_v3 : FVec F S2000000x128 .f32 := addf main_v0 main_v2
  let main_cst : FVec F S_ .f32 := constant S_ .f32 0x40000000#32
  let main_v4 : FVec F S_ .f32 := Host.log main_cst
  let main_cst_0 : FVec F S_ .f32 := constant S_ .f32 0x42E80000#32
  let main_v5 : FVec F S_ .f32 := mulf main_cst_0 main_v4
  let main_v6 : FVec F S2000000x128 .f32 := broadcastInDim S2000000x128 ![] bcast_S_S2000000x128 main_v5
  let main_v7 : IVec S2000000x128 1 := cmpf .ole main_v3 main_v6
  let main_c : IVec S_ 1 := constantI S_ 1 1#1
  let main_v8 : IVec S_ 1 := (fun x v => Host.reduce IntOp.andi x v reducesTo_S2000000x128_S_d0_1 h_S_) main_v7 main_c
  main_v8
-- ==== Kernel.lean ====
abbrev S2000000x128 : Shape := ⟨2, ![2000000, 128]⟩
abbrev S128x128 : Shape := ⟨2, ![128, 128]⟩
abbrev S128 : Shape := ⟨1, ![128]⟩
abbrev S128x1 : Shape := ⟨2, ![128, 1]⟩
abbrev S2000000 : Shape := ⟨1, ![2000000]⟩
abbrev S1x128 : Shape := ⟨2, ![1, 128]⟩
abbrev S50x1x40000 : Shape := ⟨3, ![50, 1, 40000]⟩
abbrev S2x80x128 : Shape := ⟨3, ![2, 80, 128]⟩
abbrev S40000x128 : Shape := ⟨2, ![40000, 128]⟩
abbrev S1x1x40000 : Shape := ⟨3, ![1, 1, 40000]⟩
abbrev S1x80x128 : Shape := ⟨3, ![1, 80, 128]⟩
abbrev S1x40000 : Shape := ⟨2, ![1, 40000]⟩
abbrev S80x40000 : Shape := ⟨2, ![80, 40000]⟩
abbrev S128x40000 : Shape := ⟨2, ![128, 40000]⟩
abbrev S80x128 : Shape := ⟨2, ![80, 128]⟩
abbrev S10240x1 : Shape := ⟨2, ![10240, 1]⟩
abbrev S10000x1 : Shape := ⟨2, ![10000, 1]⟩

abbrev nBuf : Space → Nat
  | .hbm => 16
  | .vmem => 9
  | .smem => 0
  | _ => 0

abbrev bufTy : (tb : Table) → Fin (tcTables nBuf tb) → BufTy
  | .hbm, ⟨0, _⟩ => ⟨S2000000x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S2000000, .i32⟩
  | .hbm, ⟨5, _⟩ => ⟨S1x128, .f32⟩
  | .hbm, ⟨6, _⟩ => ⟨S1x128, .f32⟩
  | .hbm, ⟨7, _⟩ => ⟨S50x1x40000, .i32⟩
  | .hbm, ⟨8, _⟩ => ⟨S2x80x128, .f32⟩
  | .hbm, ⟨9, _⟩ => ⟨S1x80x128, .f32⟩
  | .hbm, ⟨10, _⟩ => ⟨S80x128, .f32⟩
  | .hbm, ⟨11, _⟩ => ⟨S1x80x128, .f32⟩
  | .hbm, ⟨12, _⟩ => ⟨S80x128, .f32⟩
  | .hbm, ⟨13, _⟩ => ⟨S80x128, .f32⟩
  | .hbm, ⟨14, _⟩ => ⟨S10240x1, .f32⟩
  | .hbm, ⟨15, _⟩ => ⟨S10000x1, .f32⟩
  | .local _ .vmem, ⟨0, _⟩ => ⟨S40000x128, .f32⟩
  | .local _ .vmem, ⟨1, _⟩ => ⟨S40000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x1x40000, .i32⟩
  | .local _ .vmem, ⟨6, _⟩ => ⟨S1x1x40000, .i32⟩
  | .local _ .vmem, ⟨7, _⟩ => ⟨S1x80x128, .f32⟩
  | .local _ .vmem, ⟨8, _⟩ => ⟨S1x80x128, .f32⟩
  | _, _ => ⟨S2000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S40000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x40000 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x80x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
variable {F : FTy → Type} [FloatOps F] [Named F]
def κ : String → Option EReal := fun
  | "log2_e" => some (((Real.log 2)⁻¹ : ℝ) : EReal)
  | "log_2" => some ((Real.log 2 : ℝ) : EReal)
  | _ => none
-- ==== ReferenceIdeal.lean ====
abbrev S2000000x128 : Shape := ⟨2, ![2000000, 128]⟩
abbrev S128x128 : Shape := ⟨2, ![128, 128]⟩
abbrev S128 : Shape := ⟨1, ![128]⟩
abbrev S128x1 : Shape := ⟨2, ![128, 1]⟩
abbrev S2000000 : Shape := ⟨1, ![2000000]⟩
abbrev S1x128 : Shape := ⟨2, ![1, 128]⟩
abbrev S_ : Shape := ⟨0, ![]⟩
abbrev S2000000x1 : Shape := ⟨2, ![2000000, 1]⟩
abbrev S10000x1 : Shape := ⟨2, ![10000, 1]⟩

abbrev nBuf : Space → Nat
  | .hbm => 32
  | .vmem => 0
  | .smem => 0
  | _ => 0

abbrev bufTy : (tb : Table) → Fin (tcTables nBuf tb) → BufTy
  | .hbm, ⟨0, _⟩ => ⟨S2000000x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S2000000, .i32⟩
  | .hbm, ⟨5, _⟩ => ⟨S2000000x128, .f32⟩
  | .hbm, ⟨6, _⟩ => ⟨S1x128, .f32⟩
  | .hbm, ⟨7, _⟩ => ⟨S2000000x128, .f32⟩
  | .hbm, ⟨8, _⟩ => ⟨S2000000x128, .f32⟩
  | .hbm, ⟨9, _⟩ => ⟨S_, .f32⟩
  | .hbm, ⟨10, _⟩ => ⟨S2000000x128, .f32⟩
  | .hbm, ⟨11, _⟩ => ⟨S2000000x128, .f32⟩
  | .hbm, ⟨12, _⟩ => ⟨S2000000x128, .f32⟩
  | .hbm, ⟨13, _⟩ => ⟨S2000000x128, .f32⟩
  | .hbm, ⟨14, _⟩ => ⟨S2000000x128, .i1⟩
  | .hbm, ⟨15, _⟩ => ⟨S2000000x128, .f32⟩
  | .hbm, ⟨16, _⟩ => ⟨S2000000x128, .f32⟩
  | .hbm, ⟨17, _⟩ => ⟨S2000000x128, .f32⟩
  | .hbm, ⟨18, _⟩ => ⟨S2000000x128, .f32⟩
  | .hbm, ⟨19, _⟩ => ⟨S2000000x128, .f32⟩
  | .hbm, ⟨20, _⟩ => ⟨S2000000x128, .f32⟩
  | .hbm, ⟨21, _⟩ => ⟨S2000000x128, .f32⟩
  | .hbm, ⟨22, _⟩ => ⟨S2000000x128, .f32⟩
  | .hbm, ⟨23, _⟩ => ⟨S_, .f32⟩
  | .hbm, ⟨24, _⟩ => ⟨S_, .f32⟩
  | .hbm, ⟨25, _⟩ => ⟨S2000000x128, .f32⟩
  | .hbm, ⟨26, _⟩ => ⟨S2000000x128, .f32⟩
  | .hbm, ⟨27, _⟩ => ⟨S2000000x1, .f32⟩
  | .hbm, ⟨28, _⟩ => ⟨S_, .f32⟩
  | .hbm, ⟨29, _⟩ => ⟨S10000x1, .f32⟩
  | .hbm, ⟨30, _⟩ => ⟨S2000000x1, .i32⟩
  | .hbm, ⟨31, _⟩ => ⟨S10000x1, .f32⟩
  | _, _ => ⟨S2000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== Proof.Scalar.lean ====
/-
  One hidden unit, over the extended reals.  The kernel works in base two: it scales the first layer by `1 / log 2`
  and the second by `log 2`, and takes `log (2 ^ q + 1/2) / log 2` of the scaled pre-activation `q`.  The reference
  takes `softplus z - log 2` of the plain pre-activation `z`.  Here: the two scalings cancel, and for
  `z ≤ 116 · log 2`, where the kernel's bound `q ≤ 115` does nothing, the two activations are one number.
-/
module

public import Idealize.ShloMosaic.PureOps.Ideal
public import Mathlib.Analysis.SpecialFunctions.Log.Basic
public import Mathlib.Analysis.SpecialFunctions.Pow.Real

@[expose] public section

noncomputable section

namespace Cert.SegMlp

open Idealize.ShloMosaic

/-- `log 2`. -/
def ln2 : EReal := ((Real.log 2 : ℝ) : EReal)

/-- `1 / log 2`. -/
def ln2inv : EReal := (((Real.log 2)⁻¹ : ℝ) : EReal)

/-- The word of the constant two is 2. -/
theorem ofBits_two : Ideal.ofBits .f32 0x40000000#32 = ((2 : ℝ) : EReal) := by
  simp [Ideal.ofBits, Ideal.ieee, -EReal.coe_mul]; norm_num

/-- The reference's logarithm of two. -/
theorem log_two : Ideal.log ((2 : ℝ) : EReal) = ln2 := by
  show (if (2 : ℝ) ≤ 0 then (⊥ : EReal) else ((Real.log 2 : ℝ) : EReal)) = _
  rw [if_neg (by norm_num)]
  rfl

/-- `log 2` is positive. -/
theorem log_two_pos : 0 < Real.log 2 := Real.log_pos one_lt_two

theorem ln2_mul_inv : ln2 * ln2inv = 1 := by
  unfold ln2 ln2inv
  rw [← EReal.coe_mul, mul_inv_cancel₀ log_two_pos.ne', EReal.coe_one]

theorem ln2inv_nonneg : 0 ≤ ln2inv := EReal.coe_nonneg.2 (inv_nonneg.2 log_two_pos.le)

theorem ln2inv_ne_top : ln2inv ≠ ⊤ := EReal.coe_ne_top _

/-- Scaling by `1 / log 2` goes inside a sum of two. -/
theorem add_mul_ln2inv (a b : EReal) : (a + b) * ln2inv = a * ln2inv + b * ln2inv :=
  EReal.right_distrib_of_nonneg_of_ne_top ln2inv_nonneg ln2inv_ne_top a b

/-- Scaling by `1 / log 2` goes inside a finite sum. -/
theorem sum_mul_ln2inv {ι : Type*} (s : Finset ι) (f : ι → EReal) : (∑ k ∈ s, f k) * ln2inv = ∑ k ∈ s, f k * ln2inv := by
  classical
  induction s using Finset.induction_on with
  | empty => simp
  | insert a s ha ih => rw [Finset.sum_insert ha, Finset.sum_insert ha, add_mul_ln2inv, ih]

/-- The scaled first layer is the plain one, shifted by `log 2` and scaled by `1 / log 2`. -/
theorem scaled_affine {ι : Type*} (s : Finset ι) (x w : ι → EReal) (b : EReal) :
    (∑ k ∈ s, x k * (w k * ln2inv)) + (b - ln2) * ln2inv = ((∑ k ∈ s, x k * w k) + b - ln2) * ln2inv := by
  have h : ∑ k ∈ s, x k * (w k * ln2inv) = (∑ k ∈ s, x k * w k) * ln2inv := by
    rw [sum_mul_ln2inv]
    exact Finset.sum_congr rfl fun k _ => (mul_assoc _ _ _).symm
  rw [h, ← add_mul_ln2inv, sub_eq_add_neg, sub_eq_add_neg, add_assoc]

/-- The scalings of the second layer cancel. -/
theorem scaled_mul (w h : EReal) : (w * ln2) * (h * ln2inv) = h * w := by
  rw [mul_comm h ln2inv, mul_assoc, ← mul_assoc ln2, ln2_mul_inv, one_mul, mul_comm]

/-- The kernel's activation of a scaled pre-activation `q`, before the final factor `1 / log 2`. -/
def actK (q : EReal) : EReal := Ideal.log (Ideal.exp2 (min q ((115 : ℝ) : EReal)) + ((1 / 2 : ℝ) : EReal))

/-- The reference's activation of a pre-activation `z`: softplus, less `log 2`. -/
def actR (z : EReal) : EReal := max z 0 + Ideal.log1p (Ideal.exp (-(max z (-z)))) - ln2

/-- Softplus in its two usual forms. -/
theorem softplus_real (r : ℝ) : max r 0 + Real.log (1 + Real.exp (-|r|)) = Real.log (1 + Real.exp r) := by
  rcases le_total 0 r with h | h
  · rw [max_eq_left h, abs_of_nonneg h]
    have h1 : 1 + Real.exp r = Real.exp r * (1 + Real.exp (-r)) := by
      rw [mul_add, mul_one, ← Real.exp_add, add_neg_cancel, Real.exp_zero, add_comm]
    rw [h1, Real.log_mul (Real.exp_pos r).ne' (by positivity), Real.log_exp]
  · rw [max_eq_right h, abs_of_nonpos h, neg_neg, zero_add]

/-- `2 ^ ((r - log 2) / log 2)` is `e ^ r / 2`. -/
theorem two_rpow_scaled (r : ℝ) : (2 : ℝ) ^ ((r - Real.log 2) * (Real.log 2)⁻¹) = Real.exp r / 2 := by
  rw [Real.rpow_def_of_pos two_pos, mul_comm (r - Real.log 2), ← mul_assoc, mul_inv_cancel₀ log_two_pos.ne', one_mul,
    Real.exp_sub, Real.exp_log two_pos]

/-- Below the bound the kernel's activation is the reference's. -/
theorem act_eq (z : EReal) (hz : z ≤ ((116 : ℝ) : EReal) * ln2) : actK ((z - ln2) * ln2inv) = actR z := by
  have hL := log_two_pos
  induction z using EReal.rec with
  | bot =>
    have h1 : ((⊥ : EReal) - ln2) * ln2inv = ⊥ := by
      rw [EReal.bot_sub]
      exact EReal.bot_mul_coe_of_pos (inv_pos.2 hL)
    rw [h1]
    unfold actK actR ln2
    rw [min_eq_left bot_le]
    have h2 : max (⊥ : EReal) 0 = 0 := max_eq_right bot_le
    have h3 : max (⊥ : EReal) (-⊥) = ⊤ := by rw [EReal.neg_bot]; exact max_eq_right bot_le
    rw [h2, h3, EReal.neg_top]
    have h4 : Ideal.exp2 ⊥ = 0 := rfl
    have h5 : Ideal.exp ⊥ = 0 := rfl
    rw [h4, h5, zero_add, zero_add]
    have h6 : Ideal.log1p 0 = 0 := by
      show Ideal.log (1 + 0) = 0
      rw [add_zero, ← EReal.coe_one]
      show (if (1 : ℝ) ≤ 0 then (⊥ : EReal) else ((Real.log 1 : ℝ) : EReal)) = 0
      rw [if_neg (by norm_num), Real.log_one, EReal.coe_zero]
    rw [h6, zero_sub]
    show (if (1 / 2 : ℝ) ≤ 0 then (⊥ : EReal) else ((Real.log (1 / 2) : ℝ) : EReal)) = _
    rw [if_neg (by norm_num), ← EReal.coe_neg, one_div, Real.log_inv]
  | top =>
    exfalso
    unfold ln2 at hz
    rw [← EReal.coe_mul] at hz
    exact EReal.coe_ne_top _ (top_le_iff.1 hz)
  | coe r =>
    unfold ln2 at hz
    rw [← EReal.coe_mul, EReal.coe_le_coe_iff] at hz
    have hq : (r - Real.log 2) * (Real.log 2)⁻¹ ≤ 115 := by
      rw [← div_eq_mul_inv, div_le_iff₀ hL]
      linarith
    have hK : actK (((r : EReal) - ln2) * ln2inv) = ((Real.log (Real.exp r / 2 + 1 / 2) : ℝ) : EReal) := by
      unfold actK ln2 ln2inv
      rw [← EReal.coe_sub, ← EReal.coe_mul, min_eq_left (EReal.coe_le_coe_iff.2 hq)]
      show Ideal.log (((Real.rpow 2 ((r - Real.log 2) * (Real.log 2)⁻¹) : ℝ) : EReal) + _) = _
      rw [show Real.rpow 2 ((r - Real.log 2) * (Real.log 2)⁻¹) = Real.exp r / 2 from two_rpow_scaled r, ← EReal.coe_add]
      show (if Real.exp r / 2 + 1 / 2 ≤ 0 then (⊥ : EReal) else _) = _
      rw [if_neg (by have := Real.exp_pos r; linarith)]
    have hR : actR (r : EReal) = ((max r 0 + Real.log (1 + Real.exp (-|r|)) - Real.log 2 : ℝ) : EReal) := by
      unfold actR ln2
      rw [EReal.coe_sub, EReal.coe_add]
      congr 1
      have ha : max (r : EReal) (-(r : EReal)) = ((|r| : ℝ) : EReal) := by
        rw [← EReal.coe_neg, abs_eq_max_neg]
        exact (EReal.coe_strictMono.monotone.map_max).symm
      have hm : max (r : EReal) 0 = ((max r 0 : ℝ) : EReal) := by
        rw [← EReal.coe_zero]
        exact (EReal.coe_strictMono.monotone.map_max).symm
      rw [ha, hm, ← EReal.coe_neg]
      congr 1
      show Ideal.log (1 + ((Real.exp (-|r|) : ℝ) : EReal)) = _
      rw [← EReal.coe_one, ← EReal.coe_add]
      show (if 1 + Real.exp (-|r|) ≤ 0 then (⊥ : EReal) else _) = _
      rw [if_neg (by have := Real.exp_pos (-|r|); linarith)]
    rw [hK, hR, softplus_real]
    have h1 : Real.exp r / 2 + 1 / 2 = (1 + Real.exp r) / 2 := by ring
    rw [h1, Real.log_div (by have := Real.exp_pos r; positivity) two_ne_zero]

/-- What the kernel computes for one row `x`: its second layer applied to its hidden units. -/
def rowK (x : Fin 128 → EReal) (w1 : Fin 128 → Fin 128 → EReal) (b1 w2 : Fin 128 → EReal) : EReal :=
  ∑ j, (w2 j * ln2) * (actK ((∑ k, x k * (w1 k j * ln2inv)) + (b1 j - ln2) * ln2inv) * ln2inv)

/-- What the reference computes for one row `x`. -/
def rowR (x : Fin 128 → EReal) (w1 : Fin 128 → Fin 128 → EReal) (b1 w2 : Fin 128 → EReal) : EReal :=
  ∑ j, actR ((∑ k, x k * w1 k j) + b1 j) * w2 j

/-- The two rows are equal when no pre-activation of the row exceeds `116 · log 2`. -/
theorem row_eq (x : Fin 128 → EReal) (w1 : Fin 128 → Fin 128 → EReal) (b1 w2 : Fin 128 → EReal)
    (h : ∀ j, (∑ k, x k * w1 k j) + b1 j ≤ ((116 : ℝ) : EReal) * ln2) : rowK x w1 b1 w2 = rowR x w1 b1 w2 := by
  unfold rowK rowR
  refine Finset.sum_congr rfl fun j _ => ?_
  rw [scaled_affine, act_eq _ (h j), scaled_mul]

end Cert.SegMlp

end
-- ==== Proof.Word.lean ====
/-
  The two factors of a segment number.  The kernel splits a node's segment word `w` into its upper part `w >> 7`
  (arithmetic) and its lower seven bits `w & 127`, and compares each with the number of a row below 80 and of a lane
  below 128.  Both hits together say that `w`, read as a signed integer, is `128 · row + lane`.
-/
module

public import Idealize.ShloMosaic.PureOps.Ideal

@[expose] public section

namespace Cert.SegMlp

/-- Upper and lower part hit row `g` and lane `l` exactly when the signed word is `128 g + l`. -/
theorem split_iff (w : BitVec 32) (g l : ℕ) (hg : g < 80) (hl : l < 128) :
    (BitVec.ofNat 32 g = w.sshiftRight 7 ∧ BitVec.ofNat 32 l = w &&& 127#32) ↔ w.toInt = ((128 * g + l : ℕ) : Int) := by
  have h1 : (w &&& 127#32).toNat = w.toNat % 128 := by
    rw [BitVec.toNat_and]
    exact Nat.and_two_pow_sub_one_eq_mod w.toNat 7
  have h2 : (w.sshiftRight 7).toInt = w.toInt / 128 := by
    rw [BitVec.toInt_sshiftRight, Int.shiftRight_eq_div_pow]
    rfl
  have h3 : BitVec.ofNat 32 g = w.sshiftRight 7 ↔ (g : Int) = w.toInt / 128 := by
    rw [← BitVec.toInt_inj, h2]
    have : (BitVec.ofNat 32 g).toInt = (g : Int) := by
      rw [BitVec.toInt_eq_toNat_cond, BitVec.toNat_ofNat]
      rw [if_pos (by omega)]
      omega
    rw [this]
  have h4 : BitVec.ofNat 32 l = w &&& 127#32 ↔ l = w.toNat % 128 := by
    rw [← BitVec.toNat_inj, h1, BitVec.toNat_ofNat]
    rw [Nat.mod_eq_of_lt (by omega)]
  rw [h3, h4]
  have h5 := BitVec.toInt_eq_toNat_cond w
  have h6 := w.isLt
  split at h5 <;> omega

end Cert.SegMlp
-- ==== Proof.Block.lean ====
/-
  What one grid point adds to its output block.  A point has a tile of 40000 rows.  It computes one number per row
  (`rowK`), and adds each row's number into the cell of the 80 x 128 block that the row's segment number names: segment
  `128 g + l` is the cell `(g, l)`.
-/
module

public import proofs.«01_k».proof.Proof.Gen.KernelIdeal.Frame
public import proofs.«01_k».proof.Proof.Scalar
public import proofs.«01_k».proof.Proof.Word
public import Idealize.ShloMosaic.Lib.Pointwise
public import Idealize.ShloMosaic.Lib.WordCmp
public import Idealize.ShloMosaic.Lib.Pipeline.ValueKit

@[expose] public section

set_option maxRecDepth 16384

noncomputable section

namespace Cert.SegMlp

open Idealize.ShloMosaic Idealize.ShloMosaic.TcCoe Cert.KernelIdeal Cert.KernelIdeal.Gen

/-- The constant named `log_2` is `log 2`. -/
theorem named_ln2 : Named.named (F := Ideal) (φ := .f32) κ "log_2" 1060205080#32 = ln2 :=
  IdealRules.named_const.ideal_named_scalar _ _ _ _ rfl

/-- The constant named `log2_e` is `1 / log 2`. -/
theorem named_ln2inv : Named.named (F := Ideal) (φ := .f32) κ "log2_e" 1069066811#32 = ln2inv :=
  IdealRules.named_const.ideal_named_scalar _ _ _ _ rfl

/-- The word of the bound is 115. -/
theorem ofBits_115 : Ideal.ofBits .f32 1122369536#32 = ((115 : ℝ) : EReal) := by
  simp [Ideal.ofBits, Ideal.ieee, -EReal.coe_mul]; norm_num

/-- The word of the shift inside the logarithm is one half. -/
theorem ofBits_half : Ideal.ofBits .f32 1056964608#32 = ((1 / 2 : ℝ) : EReal) := by
  simp [Ideal.ofBits, Ideal.ieee, -EReal.coe_mul]; norm_num

/-- The number of row `r` of the tile, whichever row of the block it is spread to. -/
theorem row_apply (W1 : Vec Ideal S128x128 .f32) (b1 W2 : Vec Ideal S1x128 .f32) (x : Vec Ideal S40000x128 .f32)
    (g : Fin 80) (r : Fin 40000) :
    k0_pay5 W1 b1 W2 x (ix2 g r)
      = rowK (fun k => x (ix2 r k)) (fun k j => W1 (ix2 k j)) (fun j => b1 (ix2 0 j)) (fun j => W2 (ix2 0 j)) := by
  unfold k0_pay5
  pointwise
  simp only [named_ln2, named_ln2inv, ofBits_115, ofBits_half]
  rfl

/-- The segment numbers as a row. -/
theorem seg_apply (b : Vec Ideal S1x1x40000 .i32) (r : Fin 40000) :
    k0_pay3 (F := Ideal) b (ix2 (0 : Fin 1) r) = b (ix3 0 0 r) := by
  unfold k0_pay3
  pointwise

/-- The row's segment number, shifted right by seven, against the block's row number. -/
theorem high_apply (b : Vec Ideal S1x1x40000 .i32) (g : Fin 80) (r : Fin 40000) :
    k0_pay4 (F := Ideal) b (ix2 g r) = BitVec.ofBool (decide (BitVec.ofNat 32 g = (b (ix3 0 0 r)).sshiftRight 7)) := by
  unfold k0_pay4
  pointwise
  rw [WordCmp.cmpi_eq_eq, seg_apply]
  rfl

/-- The 0 or 1 a comparison bit turns into. -/
theorem bit_val (p : Prop) [Decidable p] :
    FloatOps.sitofp (F := Ideal) FTy.f32 (BitVec.setWidth 32 (BitVec.ofBool (decide p))) = if p then 1 else 0 := by
  by_cases hp : p
  · rw [if_pos hp, decide_eq_true hp]
    show ((((BitVec.setWidth 32 (BitVec.ofBool true)).toInt : ℤ) : ℝ) : EReal) = 1
    rw [show (BitVec.setWidth 32 (BitVec.ofBool true)).toInt = 1 from by decide]
    norm_num
  · rw [if_neg hp, decide_eq_false hp]
    show ((((BitVec.setWidth 32 (BitVec.ofBool false)).toInt : ℤ) : ℝ) : EReal) = 0
    rw [show (BitVec.setWidth 32 (BitVec.ofBool false)).toInt = 0 from by decide]
    norm_num

/-- The block after a point: the block before, and in each cell the numbers of the tile's rows of that segment. -/
theorem block_apply (W1 : Vec Ideal S128x128 .f32) (b1 W2 : Vec Ideal S1x128 .f32) (x : Vec Ideal S40000x128 .f32)
    (b : Vec Ideal S1x1x40000 .i32) (acc : Vec Ideal S1x80x128 .f32) (g : Fin 80) (l : Fin 128) :
    k0_pay2 (k0_pay3 (F := Ideal) b) (k0_pay4 (F := Ideal) b) (k0_pay5 W1 b1 W2 x) k0_pay6 acc (ix3 (0 : Fin 1) g l)
      = acc (ix3 (0 : Fin 1) g l) + ∑ r : Fin 40000, if (b (ix3 0 0 r)).toInt = ((128 * g.val + l.val : ℕ) : ℤ)
          then rowK (fun k => x (ix2 r k)) (fun k j => W1 (ix2 k j)) (fun j => b1 (ix2 0 j)) (fun j => W2 (ix2 0 j)) else 0 := by
  unfold k0_pay2
  pointwise
  refine congrArg (fun z => acc (ix3 (0 : Fin 1) g l) + z) (Finset.sum_congr rfl fun r _ => ?_)
  rw [row_apply, high_apply, seg_apply, WordCmp.cmpi_eq_eq, bit_val]
  have hz : (k0_pay6 (F := Ideal)) (ix2 g r) = 0 := by
    unfold k0_pay6
    pointwise
  rw [hz, WordCmp.select_decide]
  have key := split_iff (b (ix3 0 0 r)) g.val l.val g.isLt l.isLt
  by_cases h1 : BitVec.ofNat 32 g.val = (b (ix3 0 0 r)).sshiftRight 7
  · rw [if_pos h1]
    by_cases h2 : BitVec.ofNat 32 l.val = IntOp.andi (b (ix3 0 0 r)) 127#32
    · rw [if_pos h2, if_pos (key.1 ⟨h1, h2⟩), mul_one]
    · rw [if_neg h2, if_neg fun h => h2 (key.2 h).2, mul_zero]
  · rw [if_neg h1, if_neg fun h => h1 (key.2 h).1, zero_mul]

end Cert.SegMlp

end
-- ==== Proof.Point.lean ====
/-
  What the output block holds after each grid point.  The grid is 2 x 25: the first point of each run of 25 starts its
  block from zero, and every point adds its tile's contribution to what the point before left.
-/
module

public import proofs.«01_k».proof.Proof.Block
public import Idealize.ShloMosaic.Lib.Claim

@[expose] public section

set_option maxRecDepth 16384

noncomputable section

namespace Cert.SegMlp

open Idealize.ShloMosaic Idealize.ShloMosaic.TcCoe Cert.KernelIdeal Cert.KernelIdeal.Gen

/-- What a tile `x` with segment numbers `b` adds to cell `j` of the block. -/
def tileAdd (W1 : Vec Ideal S128x128 .f32) (b1 W2 : Vec Ideal S1x128 .f32) (x : Vec Ideal S40000x128 .f32)
    (b : Vec Ideal S1x1x40000 .i32) (j : S1x80x128.Idx) : EReal :=
  ∑ r : Fin 40000, if (b (ix3 0 0 r)).toInt = ((128 * (j 1).val + (j 2).val : ℕ) : ℤ)
    then rowK (fun k => x (ix2 r k)) (fun k j => W1 (ix2 k j)) (fun j => b1 (ix2 0 j)) (fun j => W2 (ix2 0 j)) else 0

/-- The stored block at any cell. -/
theorem store_apply (W1 : Vec Ideal S128x128 .f32) (b1 W2 : Vec Ideal S1x128 .f32) (x : Vec Ideal S40000x128 .f32)
    (b : Vec Ideal S1x1x40000 .i32) (acc : Vec Ideal S1x80x128 .f32) (j : S1x80x128.Idx) :
    k0_pay2 (k0_pay3 (F := Ideal) b) (k0_pay4 (F := Ideal) b) (k0_pay5 W1 b1 W2 x) k0_pay6 acc j
      = acc j + tileAdd W1 b1 W2 x b j := by
  obtain ⟨z, g, l, rfl⟩ : ∃ (z : Fin 1) (g : Fin 80) (l : Fin 128), j = ix3 z g l := ⟨j 0, j 1, j 2, by ext a; fin_cases a <;> rfl⟩
  obtain rfl : z = 0 := Subsingleton.elim _ _
  exact block_apply W1 b1 W2 x b acc g l

/-- The block a run of points starts from is zero. -/
theorem start_apply (j : S1x80x128.Idx) : (k0_pay1 (F := Ideal)) j = 0 := by
  unfold k0_pay1
  pointwise

variable (m : (ℓ : Loc nD τ sig) → Buf (Elt Ideal) ℓ)

/-- What grid point `t` adds to cell `j` of its block. -/
def pointAdd (c : Dev nD) (t : Fin cfg0.N) (j : S1x80x128.Idx) : EReal :=
  tileAdd (iblk m c 1 t) (iblk m c 2 t) (iblk m c 3 t) (iblk m c 0 t) (iblk m c 4 t) j

/-- A run's first point. -/
theorem first_point (c : Dev nD) (t : Fin cfg0.N) (h : t.val % 25 = 0) (j : S1x80x128.Idx) :
    outsAt0 m c t.val t.isLt j = 0 + pointAdd m c t j := by
  rw [outsAt0_A m c t h]
  frame_out
  rw [store_apply]
  rw [start_apply]
  rfl

/-- Any other point. -/
theorem next_point (c : Dev nD) (t : Fin cfg0.N) (h : ¬t.val % 25 = 0) (j : S1x80x128.Idx) :
    outsAt0 m c t.val t.isLt j
      = outsAt0 m c (t.val - 1) (Nat.lt_of_le_of_lt (Nat.sub_le _ _) t.isLt) j + pointAdd m c t j := by
  rw [outsAt0_B m c t h]
  frame_out
  rw [store_apply]
  rfl

/-- A run's last point: the sum of its 25 points' contributions. -/
theorem last_point (c : Dev nD) (t : Fin cfg0.N) (h : t.val % 25 = 24) (j : S1x80x128.Idx) :
    outsAt0 m c t.val t.isLt j = 0 + ∑ s : Fin 25, pointAdd m c ⟨25 * (t.val / 25) + s.val, Pipeline.run_point_lt_of_flush t h s⟩ j :=
  Pipeline.eq_sum_fin_of_reset_step_apply_of_flush (fun n h => outsAt0 m c n h) 25 (fun _ => 0) (fun t j => pointAdd m c t j)
    (fun t h j => first_point m c t h j) (fun t h j => next_point m c t h j) t h j

end Cert.SegMlp

end
-- ==== Proof.Array.lean ====
/-
  The array the grid leaves: 2 x 80 x 128, half `h` from the points `25 h … 25 h + 24`.  Point `t` reads rows
  `40000 t … 40000 t + 39999` of the operand and of the segment numbers, and all of the weights.
-/
module

public import proofs.«01_k».proof.Proof.Point

@[expose] public section

set_option maxRecDepth 16384

noncomputable section

namespace Cert.SegMlp

open Idealize.ShloMosaic Idealize.ShloMosaic.TcCoe Cert.KernelIdeal Cert.KernelIdeal.Gen

variable (m : (ℓ : Loc nD τ sig) → Buf (Elt Ideal) ℓ)

/-- The number the kernel computes for row `n` of the operand. -/
def rowOf (c : Dev nD) (n : Fin 2000000) : EReal :=
  rowK (fun k => (m ((c : Thread nD τ).loc main_arg0) : S2000000x128.Idx → EReal) (ix2 n k))
    (fun k j => (m ((c : Thread nD τ).loc main_arg1) : S128x128.Idx → EReal) (ix2 k j))
    (fun j => (m ((c : Thread nD τ).loc main_arg2) : S128.Idx → EReal) (ix1 j))
    (fun j => (m ((c : Thread nD τ).loc main_arg3) : S128x1.Idx → EReal) (ix2 j (0 : Fin 1)))

/-- The segment number of row `n`. -/
def segOf (c : Dev nD) (n : Fin 2000000) : BitVec 32 :=
  (m ((c : Thread nD τ).loc main_arg4) : S2000000.Idx → BitVec 32) (ix1 n)

/-- What row `n` adds to segment `k`. -/
def contrib (c : Dev nD) (k : ℕ) (n : Fin 2000000) : EReal :=
  if (segOf m c n).toInt = (k : ℤ) then rowOf m c n else 0

theorem point_lt (t : Fin cfg0.N) : t.val < 50 := lt_of_lt_of_eq t.isLt N_0

theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![0, 0] := (by decide +kernel : ∀ t : Fin grid0.N, win0_2.index t = ![0, 0])
theorem index_3 : ∀ t : Fin cfg0.N, win0_3.index t = ![0, 0] := (by decide +kernel : ∀ t : Fin grid0.N, win0_3.index t = ![0, 0])
theorem index_4 : ∀ t : Fin cfg0.N, win0_4.index t = ![t.val, 0, 0] := (by decide +kernel : ∀ t : Fin grid0.N, win0_4.index t = ![t.val, 0, 0])
theorem index_5 : ∀ t : Fin cfg0.N, win0_5.index t = ![t.val / 25, 0, 0] := (by decide +kernel : ∀ t : Fin grid0.N, win0_5.index t = ![t.val / 25, 0, 0])

/-- The first layer's bias as the grid finds it: one row. -/
theorem entry_b1 (c : Dev nD) :
    V m c main_v0 = shapeCast S1x128 (m ((c : Thread nD τ).loc main_arg2)) shapeCasts_S128_S1x128 := by
  show StableHlo.after hostOps0 _ _ = _
  after_results
  rfl

/-- The second layer's weights as the grid finds them: one row. -/
theorem entry_w2 (c : Dev nD) :
    V m c main_v1 = shapeCast S1x128 (m ((c : Thread nD τ).loc main_arg3)) shapeCasts_S128x1_S1x128 := by
  show StableHlo.after hostOps0 _ _ = _
  after_results
  rfl

/-- The segment numbers as the grid finds them: one tile per point. -/
theorem entry_seg (c : Dev nD) :
    V m c main_v2 = shapeCast S50x1x40000 (m ((c : Thread nD τ).loc main_arg4)) shapeCasts_S2000000_S50x1x40000 := by
  show StableHlo.after hostOps0 _ _ = _
  after_results
  rfl

/-- Row `r` of point `t`'s tile, among all rows. -/
def tileRow (t : Fin cfg0.N) (r : Fin 40000) : Fin 2000000 := ⟨40000 * t.val + r.val, by have := point_lt t; omega⟩

theorem tile_x (c : Dev nD) (t : Fin cfg0.N) (r : Fin 40000) (k : Fin 128) :
    (iblk m c 0 t : S40000x128.Idx → EReal) (ix2 r k)
      = (m ((c : Thread nD τ).loc main_arg0) : S2000000x128.Idx → EReal) (ix2 (tileRow t r) k) := by
  unfold tileRow
  blk_simp [iblk]
  rw [V_main_arg0]
  refine congrArg (m ((c : Thread nD τ).loc main_arg0)) ?_
  blk_ext [index_0 t]

theorem tile_w1 (c : Dev nD) (t : Fin cfg0.N) (k j : Fin 128) :
    (iblk m c 1 t : S128x128.Idx → EReal) (ix2 k j)
      = (m ((c : Thread nD τ).loc main_arg1) : S128x128.Idx → EReal) (ix2 k j) := by
  blk_simp [iblk]
  rw [V_main_arg1]
  refine congrArg (m ((c : Thread nD τ).loc main_arg1)) ?_
  blk_ext [index_1 t]

theorem tile_b1 (c : Dev nD) (t : Fin cfg0.N) (j : Fin 128) :
    (iblk m c 2 t : S1x128.Idx → EReal) (ix2 (0 : Fin 1) j)
      = (m ((c : Thread nD τ).loc main_arg2) : S128.Idx → EReal) (ix1 j) := by
  have e : (iblk m c 2 t : S1x128.Idx → EReal) (ix2 (0 : Fin 1) j) = (V m c main_v0 : S1x128.Idx → EReal) (ix2 (0 : Fin 1) j) := by
    blk_simp [iblk]
    refine congrArg (V m c main_v0) ?_
    blk_ext [index_2 t]
  rw [e, entry_b1]
  pointwise

theorem tile_w2 (c : Dev nD) (t : Fin cfg0.N) (j : Fin 128) :
    (iblk m c 3 t : S1x128.Idx → EReal) (ix2 (0 : Fin 1) j)
      = (m ((c : Thread nD τ).loc main_arg3) : S128x1.Idx → EReal) (ix2 j (0 : Fin 1)) := by
  have e : (iblk m c 3 t : S1x128.Idx → EReal) (ix2 (0 : Fin 1) j) = (V m c main_v1 : S1x128.Idx → EReal) (ix2 (0 : Fin 1) j) := by
    blk_simp [iblk]
    refine congrArg (V m c main_v1) ?_
    blk_ext [index_3 t]
  rw [e, entry_w2]
  pointwise

theorem tile_seg (c : Dev nD) (t : Fin cfg0.N) (r : Fin 40000) :
    (iblk m c 4 t : S1x1x40000.Idx → BitVec 32) (ix3 (0 : Fin 1) (0 : Fin 1) r) = segOf m c (tileRow t r) := by
  unfold segOf tileRow
  have e : (iblk m c 4 t : S1x1x40000.Idx → BitVec 32) (ix3 (0 : Fin 1) (0 : Fin 1) r)
      = (V m c main_v2 : S50x1x40000.Idx → BitVec 32) (ix3 (⟨t.val, point_lt t⟩ : Fin 50) (0 : Fin 1) r) := by
    blk_simp [iblk]
    refine congrArg (V m c main_v2) ?_
    blk_ext [index_4 t]
  rw [e, entry_seg]
  refine shapeCast_apply (s := S2000000) _ _ _ _ ?_
  rw [Shape.rowMajor_val_one, Shape.rowMajor_val_three]
  show 40000 * t.val + r.val = (t.val * 1 + 0) * 40000 + r.val
  omega

/-- What a point adds to a cell, over the arguments' rows. -/
theorem pointAdd_eq (c : Dev nD) (t : Fin cfg0.N) (j : S1x80x128.Idx) :
    pointAdd m c t j = ∑ r : Fin 40000, contrib m c (128 * (j 1).val + (j 2).val) (tileRow t r) := by
  unfold pointAdd tileAdd contrib rowOf
  refine Finset.sum_congr rfl fun r _ => ?_
  rw [tile_seg]
  simp only [tile_x, tile_w1, tile_b1, tile_w2]

/-- What half `h` of the grid leaves in its cell for segment `k`. -/
def half (c : Dev nD) (h : Fin 2) (k : ℕ) : EReal :=
  0 + ∑ s : Fin 25, ∑ r : Fin 40000, contrib m c k ⟨40000 * (25 * h.val + s.val) + r.val, by omega⟩

/-- The array after the grid. -/
theorem array_eq (c : Dev nD) :
    (dats m 0 c).arrAt 5 cfg0.N = fun i : S2x80x128.Idx => half m c (i 0) (128 * (i 1).val + (i 2).val) := by
  refine (dats m 0 c).arrAt_eq_of_covers 5 _ (by decide +kernel) fun t hf y => ?_
  have e0 : ((((win0_5.blk t).view.emb y 0 : Fin 2)) : ℕ) = t.val / 25 := by
    blk_simp [index_5 t]
  have e1 : ((((win0_5.blk t).view.emb y 1 : Fin 80)) : ℕ) = (y 1).val := by
    blk_simp [index_5 t]
  have e2 : ((((win0_5.blk t).view.emb y 2 : Fin 128)) : ℕ) = (y 2).val := by
    blk_simp [index_5 t]
  have e3 : (dats m 0 c).after 5 t y = 0 + ∑ s : Fin 25, pointAdd m c
      ⟨25 * (t.val / 25) + s.val, Pipeline.run_point_lt_of_flush t ((flush0_5 t).mp hf) s⟩ y := by
    rw [after0_5]
    exact last_point m c t ((flush0_5 t).mp hf) y
  refine Eq.trans ?_ (e3.trans ?_)
  · blk_simp
  unfold half
  refine congrArg (fun z => 0 + z) (Finset.sum_congr rfl fun s _ => ?_)
  rw [pointAdd_eq]
  refine Finset.sum_congr rfl fun r _ => ?_
  unfold tileRow
  congr 1
  · show _ = 128 * (((win0_5.blk t).view.emb y 1 : Fin 80) : ℕ) + (((win0_5.blk t).view.emb y 2 : Fin 128) : ℕ)
    rw [e1, e2]
  · refine Fin.ext ?_
    show _ = 40000 * (25 * (((win0_5.blk t).view.emb y 0 : Fin 2) : ℕ) + s.val) + r.val
    rw [e0]

end Cert.SegMlp

end
-- ==== Proof.Tail.lean ====
/-
  After the grid the host adds the two halves of the array, lays the 80 x 128 cells out as one column, and keeps the
  first 10000: entry `k` of the result is the sum of the two halves' cells `(k / 128, k % 128)`.
-/
module

public import proofs.«01_k».proof.Proof.Array

@[expose] public section

set_option maxRecDepth 16384

noncomputable section

namespace Cert.SegMlp

open Idealize.ShloMosaic Idealize.ShloMosaic.TcCoe Cert.KernelIdeal Cert.KernelIdeal.Gen

/-- The sum of the two halves of the array. -/
def bothHalves (A : Vec Ideal S2x80x128 .f32) : FVec Ideal S80x128 .f32 :=
  addf (φ := .f32)
    (shapeCast S80x128 (extractStridedSlice S1x80x128 ![0, 0, 0] A slices_S2x80x128_S1x80x128_0_0_0) shapeCasts_S1x80x128_S80x128)
    (shapeCast S80x128 (extractStridedSlice S1x80x128 ![1, 0, 0] A slices_S2x80x128_S1x80x128_1_0_0) shapeCasts_S1x80x128_S80x128)

/-- The host operations after the grid, as one function of the array. -/
def tail (A : Vec Ideal S2x80x128 .f32) : Vec Ideal S10000x1 .f32 :=
  extractStridedSlice S10000x1 ![0, 0] (shapeCast S10240x1 (bothHalves A) shapeCasts_S80x128_S10240x1) slices_S10240x1_S10000x1_0_0

/-- The sum of the halves at a cell. -/
theorem bothHalves_apply (A : Vec Ideal S2x80x128 .f32) (g : Fin 80) (l : Fin 128) :
    bothHalves A (ix2 g l) = A (ix3 (0 : Fin 2) g l) + A (ix3 (1 : Fin 2) g l) := by
  unfold bothHalves
  pointwise

/-- An 80 x 128 block laid out as a column, at row `k`. -/
theorem column_apply (x : FVec Ideal S80x128 .f32) (k : Fin 10240) :
    shapeCast S10240x1 x shapeCasts_S80x128_S10240x1 (ix2 k (0 : Fin 1))
      = x (ix2 (⟨k.val / 128, by omega⟩ : Fin 80) (⟨k.val % 128, Nat.mod_lt _ (by decide)⟩ : Fin 128)) := by
  refine shapeCast_apply _ _ _ _ ?_
  rw [Shape.rowMajor_val_two, Shape.rowMajor_val_two]
  show k.val / 128 * 128 + k.val % 128 = k.val * 1 + 0
  omega

/-- One entry of the result, from the array. -/
theorem tail_apply (A : Vec Ideal S2x80x128 .f32) (k : Fin 10000) :
    tail A (ix2 k (0 : Fin 1))
      = A (ix3 (0 : Fin 2) (⟨k.val / 128, by omega⟩ : Fin 80) (⟨k.val % 128, Nat.mod_lt _ (by decide)⟩ : Fin 128))
        + A (ix3 (1 : Fin 2) (⟨k.val / 128, by omega⟩ : Fin 80) (⟨k.val % 128, Nat.mod_lt _ (by decide)⟩ : Fin 128)) := by
  unfold tail
  rw [← bothHalves_apply, ← column_apply (bothHalves A) ⟨k.val, by omega⟩]
  generalize shapeCast S10240x1 (bothHalves A) shapeCasts_S80x128_S10240x1 = y
  pointwise

/-- Entry `k`: both halves' sums. -/
theorem result_apply (m : (ℓ : Loc nD τ sig) → Buf (Elt Ideal) ℓ) (c : Dev nD) (k : Fin 10000) :
    tail ((dats m 0 c).arrAt 5 cfg0.N) (ix2 k (0 : Fin 1)) = half m c 0 k.val + half m c 1 k.val := by
  rw [tail_apply, array_eq]
  have h : 128 * (k.val / 128) + k.val % 128 = k.val := Nat.div_add_mod _ _
  show half m c 0 (128 * (k.val / 128) + k.val % 128) + half m c 1 (128 * (k.val / 128) + k.val % 128) = _
  rw [h]

/-- The two halves together are all the rows. -/
theorem halves (m : (ℓ : Loc nD τ sig) → Buf (Elt Ideal) ℓ) (c : Dev nD) (k : ℕ) :
    half m c 0 k + half m c 1 k = ∑ n : Fin 2000000, contrib m c k n := by
  have h2 : ∑ h : Fin 2, ∑ s : Fin 25, ∑ r : Fin 40000, contrib m c k ⟨40000 * (25 * h.val + s.val) + r.val, by omega⟩
      = ∑ n : Fin 2000000, contrib m c k n := by
    refine Eq.trans (b := ∑ t : Fin 50, ∑ r : Fin 40000, contrib m c k ⟨40000 * t.val + r.val, by omega⟩) ?_ ?_
    · refine Fin.sum_mul_add_congr (L := 50) (S := 2) (n := 25)
        (f := fun t : Fin 50 => ∑ r : Fin 40000, contrib m c k ⟨40000 * t.val + r.val, by omega⟩) fun h s hl => ?_
      refine Finset.sum_congr rfl fun r _ => congrArg (contrib m c k) (Fin.ext ?_)
      show 40000 * (25 * h.val + s.val) + r.val = 40000 * (h.val * 25 + s.val) + r.val
      omega
    · refine Fin.sum_mul_add_congr (L := 2000000) (S := 50) (n := 40000) (f := contrib m c k) fun t r hl => ?_
      refine congrArg (contrib m c k) (Fin.ext ?_)
      show 40000 * t.val + r.val = t.val * 40000 + r.val
      omega
  rw [← h2, Fin.sum_univ_two]
  unfold half
  rw [zero_add, zero_add]

end Cert.SegMlp

end
-- ==== Proof.RefValue.lean ====
/-
  What the reference computes, at one entry of its result.  Entry `k` is the sum, over the rows whose segment number is
  `k`, of the row's number `rowR`.
-/
module

public import proofs.«01_k».proof.Proof.Gen.ReferenceIdeal.Run
public import proofs.«01_k».proof.Proof.Gen.ReferenceIdeal.Read
public import proofs.«01_k».proof.Proof.Scalar
public import Idealize.ShloMosaic.Lib.Pointwise
public import Idealize.ShloMosaic.Lib.Routing.OpsPair
public import Idealize.ShloMosaic.Lib.Pipeline.ValueKit

@[expose] public section

set_option maxRecDepth 16384

noncomputable section

namespace Cert.SegMlp

open Idealize.ShloMosaic Idealize.ShloMosaic.TcCoe Cert.ReferenceIdeal Cert.ReferenceIdeal.Read

variable (x0 : Vec Ideal S2000000x128 .f32) (x1 : Vec Ideal S128x128 .f32) (x2 : Vec Ideal S128 .f32)
  (x3 : Vec Ideal S128x1 .f32) (x4 : Vec Ideal S2000000 .i32)

/-- The pre-activation of row `n`, unit `j`. -/
theorem pre_apply (n : Fin 2000000) (j : Fin 128) :
    val_main_v3 (F := Ideal) x0 x1 x2 (ix2 n j) = (∑ k, x0 (ix2 n k) * x1 (ix2 k j)) + x2 (ix1 j) := by
  rw [val_main_v3_apply, val_main_v0_apply, val_main_v2_apply, val_main_v1_apply]
  have e0 : ∀ k : Fin 128, lidx_main_v0 (ix2 n j) k = ix2 n k := fun k => by funext a; fin_cases a <;> rfl
  have e1 : ∀ k : Fin 128, ridx_main_v0 (ix2 n j) k = ix2 k j := fun k => by funext a; fin_cases a <;> rfl
  have e2 : idx_main_v1 (idx_main_v2 (ix2 n j)) = ix1 j := by funext a; fin_cases a; rfl
  simp only [e0, e1, e2]
  exact Ideal.addf_def _ _

/-- The activation of row `n`, unit `j`. -/
theorem hidden_apply (i : S2000000x128.Idx) :
    val_main_v7 (F := Ideal) x0 x1 x2 i = actR (val_main_v3 (F := Ideal) x0 x1 x2 i) := by
  rw [val_main_v7_apply, val_main_v4_apply]
  simp only [val_main_call0_v2_apply, val_main_call0_v1_apply, val_main_call0_v0_apply, val_main_call0_v3_apply,
    val_main_call0_v4_apply, val_main_call0_v5_apply, val_main_call0_v6_apply, val_main_call0_v7_apply,
    val_main_call0_v8_apply, val_main_call0_v9_apply, val_main_call0_v10_apply, val_main_call0_v11_apply,
    val_main_call0_cst_apply, val_main_v6_apply, val_main_v5_apply, val_main_cst_apply]
  generalize val_main_v3 (F := Ideal) x0 x1 x2 i = z
  show (Scalar.select (BitVec.ofBool (decide (z - Ideal.ofBits .f32 0#32 ≠ z - Ideal.ofBits .f32 0#32))) (z + Ideal.ofBits .f32 0#32)
      (max z (Ideal.ofBits .f32 0#32)
        + Ideal.log1p (Ideal.exp (-(max (z - Ideal.ofBits .f32 0#32) (-(z - Ideal.ofBits .f32 0#32))))))
    - Ideal.log (Ideal.ofBits .f32 1073741824#32) : EReal) = _
  rw [WordCmp.select_decide, if_neg (fun h => h rfl), Ideal.ofBits_zero_f32, ofBits_two, log_two, sub_zero]
  rfl

/-- The number of row `n`. -/
theorem out_apply (n : Fin 2000000) :
    val_main_v8 (F := Ideal) x0 x1 x2 x3 (ix2 n (0 : Fin 1))
      = rowR (fun k => x0 (ix2 n k)) (fun k j => x1 (ix2 k j)) (fun j => x2 (ix1 j)) (fun j => x3 (ix2 j (0 : Fin 1))) := by
  rw [val_main_v8_apply]
  unfold rowR
  refine Finset.sum_congr rfl fun j _ => ?_
  rw [hidden_apply]
  have e : lidx_main_v8 (ix2 n (0 : Fin 1)) j = ix2 n j := by funext a; fin_cases a <;> rfl
  have e' : ridx_main_v8 (ix2 n (0 : Fin 1)) j = ix2 j (0 : Fin 1) := by funext a; fin_cases a <;> rfl
  rw [e, e', pre_apply]

/-- Where a row's number goes: row `n` lands at entry `k` exactly when its segment number is `k`. -/
theorem lands_iff (idx : IVec S2000000x1 32) (n : Fin 2000000) (k : Fin 10000) :
    (scatter_S10000x1_S2000000x1_S2000000x1_1_0_0_1).resultIdx? (ix2 n (0 : Fin 1)) idx = some (ix2 k (0 : Fin 1))
      ↔ (idx (ix2 n (0 : Fin 1))).toInt = (k.val : ℤ) := by
  generalize hd : scatter_S10000x1_S2000000x1_S2000000x1_1_0_0_1 = d
  have huw : d.updateWindowDims = [1] := by rw [← hd]; rfl
  have hiw : d.insertedWindowDims = [0] := by rw [← hd]; rfl
  have hsd : d.scatterDimsToOperandDims = [0] := by rw [← hd]; rfl
  have hiv : d.indexVectorDim = 1 := by rw [← hd]; rfl
  have hm : (0 : Fin 2) ∈ d.scatterDimsToOperandDims := by rw [hsd]; exact List.mem_singleton.2 rfl
  have hw0 : d.window (ix2 n (0 : Fin 1)) 0 = 0 := by
    unfold ScatterDims.window
    rw [dif_neg fun h => (of_decide_eq_true (List.mem_filter.1 h).2) (by rw [hiw]; exact List.mem_singleton.2 rfl)]
  have hw1 : d.window (ix2 n (0 : Fin 1)) 1 = 0 := by
    unfold ScatterDims.window
    split
    · rename_i h
      subst hd
      rfl
    · rfl
  have hs1 : d.start (ix2 n (0 : Fin 1)) idx 1 = 0 := by
    unfold ScatterDims.start
    rw [dif_neg fun h => by rw [hsd] at h; exact absurd (List.mem_singleton.1 h) (by decide : (1 : Fin 2) ≠ 0)]
  have hs0 : d.start (ix2 n (0 : Fin 1)) idx 0 = (idx (ix2 n (0 : Fin 1))).toInt := by
    have hsi : d.siIdx (ix2 n (0 : Fin 1)) ⟨d.scatterDimsToOperandDims.idxOf 0, List.idxOf_lt_length_iff.2 hm⟩ = ix2 n (0 : Fin 1) := by
      funext b
      match b with
      | ⟨0, _⟩ =>
        subst hd
        rfl
      | ⟨1, _⟩ => exact Subsingleton.elim (α := Fin 1) _ _
    unfold ScatterDims.start
    rw [dif_pos hm, hsi]
  refine (Routing.resultIdx?_ix2 (R := 10000) (C := 1) d (ix2 n (0 : Fin 1)) idx k (0 : Fin 1)).trans ?_
  rw [hs0, hs1, hw0, hw1]
  constructor
  · intro h
    have := h.1
    omega
  · intro h
    exact ⟨by omega, rfl⟩

/-- A sum over the indices of a one-column array is a sum over its rows. -/
theorem sum_column {N : ℕ} (f : (⟨2, ![N, 1]⟩ : Shape).Idx → EReal) : ∑ i, f i = ∑ n : Fin N, f (ix2 n (0 : Fin 1)) := by
  refine Fintype.sum_equiv ⟨fun i => (i 0 : Fin N), fun n => ix2 n (0 : Fin 1), fun i => ?_, fun n => rfl⟩ _ _ fun i => ?_
  all_goals
    have e : ix2 (i 0 : Fin N) (0 : Fin 1) = i := by
      funext a
      match a with
      | ⟨0, _⟩ => rfl
      | ⟨1, _⟩ => exact Subsingleton.elim (α := Fin 1) _ _
  · exact e
  · exact (congrArg f e).symm

/-- A scatter-add into one column, at row `k`: the operand's entry plus the updates that land there. -/
theorem scatter_column {R N : ℕ} (d : ScatterDims (⟨2, ![R, 1]⟩ : Shape) ⟨2, ![N, 1]⟩ ⟨2, ![N, 1]⟩)
    (x : FVec Ideal (⟨2, ![R, 1]⟩ : Shape) .f32) (idx : IVec (⟨2, ![N, 1]⟩ : Shape) 32)
    (u : FVec Ideal (⟨2, ![N, 1]⟩ : Shape) .f32) (k : Fin R) :
    (Host.scatterAdd d x idx u (ix2 k (0 : Fin 1)) : EReal)
      = x (ix2 k (0 : Fin 1)) + ∑ n : Fin N, if d.resultIdx? (ix2 n (0 : Fin 1)) idx = some (ix2 k (0 : Fin 1))
          then u (ix2 n (0 : Fin 1)) else 0 := by
  show (x (ix2 k (0 : Fin 1)) + ∑ j ∈ Finset.univ.filter (fun j => d.resultIdx? j idx = some (ix2 k (0 : Fin 1))), u j : EReal) = _
  rw [Finset.sum_filter, sum_column]

/-- Entry `k` of the reference's result. -/
theorem ref_apply (k : Fin 10000) :
    val_main_v11 (F := Ideal) x0 x1 x2 x3 x4 (ix2 k (0 : Fin 1))
      = ∑ n : Fin 2000000, if (x4 (ix1 n)).toInt = (k.val : ℤ)
          then rowR (fun k => x0 (ix2 n k)) (fun k j => x1 (ix2 k j)) (fun j => x2 (ix1 j)) (fun j => x3 (ix2 j (0 : Fin 1))) else 0 := by
  unfold val_main_v11
  refine (scatter_column (R := 10000) (N := 2000000) _ _ _ _ k).trans ?_
  have h0 : val_main_v9 (F := Ideal) (ix2 k (0 : Fin 1)) = (0 : EReal) := by
    rw [val_main_v9_apply, val_main_cst_0_apply]
    exact Ideal.ofBits_zero_f32
  rw [h0, zero_add]
  refine Finset.sum_congr rfl fun n _ => ?_
  have e : val_main_v10 (F := Ideal) x4 (ix2 n (0 : Fin 1)) = x4 (ix1 n) := by
    rw [val_main_v10_apply]
    refine congrArg x4 ?_
    funext a
    match a with
    | ⟨0, _⟩ => rfl
  rw [out_apply]
  refine if_congr ?_ rfl rfl
  rw [lands_iff, e]

end Cert.SegMlp

end
-- ==== Proof.Pre.lean ====
/-
  What the precondition says: no pre-activation of the first layer exceeds `116 · log 2`.
-/
module

public import proofs.«01_k».proof.Defs
public import proofs.«01_k».proof.Proof.Gen.Pre_clamp_idle
public import proofs.«01_k».proof.Proof.Scalar
public import Idealize.ShloMosaic.Lib.Pointwise
public import Idealize.ShloMosaic.Lib.ReduceAll
public import Idealize.ShloMosaic.Lib.Pipeline.ValueKit

@[expose] public section

set_option maxRecDepth 16384

noncomputable section

namespace Cert.SegMlp

open Idealize.ShloMosaic Idealize.ShloMosaic.TcCoe Cert.Pre_clamp_idle

/-- The word of the bound's factor is 116. -/
theorem ofBits_116 : Ideal.ofBits .f32 1122500608#32 = ((116 : ℝ) : EReal) := by
  simp [Ideal.ofBits, Ideal.ieee, -EReal.coe_mul]; norm_num

/-- The precondition, unit by unit. -/
theorem pre_unit (x0 : FVec Ideal S2000000x128 .f32) (x1 : FVec Ideal S128x128 .f32) (x2 : FVec Ideal S128 .f32)
    (x3 : FVec Ideal S128x1 .f32) (x4 : IVec S2000000 32) (e : S_.Idx)
    (h : fn (F := Ideal) x0 x1 x2 x3 x4 e = 1#1) (n : Fin 2000000) (j : Fin 128) :
    (∑ k, x0 (ix2 n k) * x1 (ix2 k j)) + x2 (ix1 j) ≤ ((116 : ℝ) : EReal) * ln2 := by
  haveI : Subsingleton S_.Idx := ⟨fun a b => by funext i; exact i.elim0⟩
  dsimp only [fn] at h
  have h1 := Host.reduce_andi_all _ _ _ _ e h (ix2 n j)
  pointwise at h1
  rw [ofBits_116, ofBits_two, log_two] at h1
  by_contra hn
  rw [decide_eq_false hn] at h1
  exact absurd h1 (by decide)

end Cert.SegMlp

end
-- ==== Proof.Equation.lean ====
/-
  The equation: under the precondition the kernel's result is the reference's, entry by entry.  Both are, at entry `k`,
  a sum over the rows of segment `k`; the rows' numbers agree by `row_eq`.
-/
module

public import proofs.«01_k».proof.Proof.Tail
public import proofs.«01_k».proof.Proof.RefValue
public import proofs.«01_k».proof.Proof.Pre

@[expose] public section

set_option maxRecDepth 16384

noncomputable section

namespace Cert.SegMlp

open Idealize.ShloMosaic Idealize.ShloMosaic.TcCoe Cert.KernelIdeal Cert.KernelIdeal.Gen

/-- The two results are one array. -/
theorem results_eq (m : (ℓ : Loc nD τ sig) → Buf (Elt Ideal) ℓ) (hpre : Cert.Pre_KernelIdeal_clamp_idle m) (c : Dev nD) :
    tail ((dats m 0 c).arrAt 5 cfg0.N)
      = Cert.ReferenceIdeal.Read.val_main_v11 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  funext i
  obtain ⟨k, rfl⟩ : ∃ k : Fin 10000, i = ix2 k (0 : Fin 1) := ⟨i 0, by
    funext a
    match a with
    | ⟨0, _⟩ => rfl
    | ⟨1, _⟩ => exact Subsingleton.elim (α := Fin 1) _ _⟩
  rw [result_apply, halves]
  refine Eq.trans ?_ (ref_apply _ _ _ _ _ k).symm
  refine Finset.sum_congr rfl fun n _ => ?_
  unfold contrib segOf rowOf
  rw [row_eq _ _ _ _ fun j => pre_unit _ _ _ _ _ _ (congrFun (hpre c) (fun a => a.elim0)) n j]

end Cert.SegMlp

end
-- ==== Proof.Run.lean ====
/-
  The kernel's run, read at its result: `tail` of the array the grid leaves.
-/
module

public import proofs.«01_k».proof.Proof.Tail

@[expose] public section

set_option maxRecDepth 16384

noncomputable section

namespace Cert.SegMlp

open Idealize.ShloMosaic Idealize.ShloMosaic.TcCoe Idealize.SL.Sem Cert.KernelIdeal Cert.KernelIdeal.Gen

/-- What the host operations after the grid leave in the result. -/
theorem after_tail (m : (ℓ : Loc nD τ sig) → Buf (Elt Ideal) ℓ) (c : Dev nD) :
    Pipeline.afterTail₀ cfgs (dats m) 0 (V0 m) [hostOps1] c main_v10 = tail ((dats m 0 c).arrAt 5 cfg0.N) := by
  have hA : Pipeline.withArrays spec0 c (V0 m c) (fun w => (dats m 0 c).arrAt w cfg0.N) (Proc.devRef .tc main_v3)
      = (dats m 0 c).arrAt 5 cfg0.N := Pipeline.withArrays_arr spec0 (by decide) c (V0 m c) _ 5
  refine Eq.trans ?_ (congrArg tail hA)
  unfold Pipeline.afterTail₀
  show StableHlo.after hostOps1 _ _ = _
  after_results
  rfl

/-- The kernel's run: the result is `tail` of the grid's array, and the arguments end as they were. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v10) = tail ((dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨((h.1 c).2 main_v10 (Pipeline.mem_restRefs_of main_v10 (by decide) (by decide))).trans (after_tail m c), h.2 c⟩)
    (θ_run_and (run_main m g) (unchanged m g))

end Cert.SegMlp

end
-- ==== Proof.lean ====
/-
  The certificate's claim, assembled: the frames of the three programs, the named constants, and the equation of the
  kernel's and the reference's results (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_clamp_idle
public import proofs.«01_k».proof.Proof.Equation
public import proofs.«01_k».proof.Proof.Run
public import Idealize.ShloMosaic.Lib.Quiescent
public import Idealize.ShloMosaic.Adequacy
public import Idealize.ShloMosaic.Init

@[expose] public section

noncomputable section

set_option maxRecDepth 16384

namespace Cert.Proof

open Idealize.ShloMosaic Idealize.SL.Sem Cert.Kernel

/-- The named constants are what the programs print in their place. -/
theorem preserves : Cert.preserves_Kernel_KernelIdeal :=
  ⟨IdealRules.named_const.statement Cert.KernelIdeal.κ "log2_e" .f32 0x3FB8AA3B#32 _ rfl,
    IdealRules.named_const.statement Cert.KernelIdeal.κ "log_2" .f32 0x3F317218#32 _ rfl⟩

/-- The reference terminates, its arguments unchanged; it has no counters. -/
theorem frame_reference : Cert.quiescent_ReferenceIdeal := fun m g _ =>
  (θ_run Cert.ReferenceIdeal.defs _ _).mono (fun r h => And.intro (fun c => (h c).2) (sem_eq_zero_of_no_sems (by decide) r.2))
    (Cert.ReferenceIdeal.Value.run (F := Ideal) m g)

/-- The value claim. -/
theorem algebraic : Cert.algebraic_KernelIdeal_ReferenceIdeal_pre_clamp_idle := by
  intro m g m' g' hpre hagree
  refine ⟨fun c => Cert.SegMlp.tail ((Cert.KernelIdeal.Gen.dats m 0 c).arrAt 5 Cert.KernelIdeal.cfg0.N),
    Cert.SegMlp.kernel_run m g, ?_⟩
  refine (θ_run Cert.ReferenceIdeal.defs _ _).mono (fun r h c => ⟨(h c).1.trans ?_, (h c).2⟩) (Cert.ReferenceIdeal.Value.run (F := Ideal) m' g')
  obtain ⟨h0, h1, h2, h3, h4⟩ := hagree c
  refine (Cert.ReferenceIdeal.Read.val_main_v11_eq (F := Ideal) _ _ _ _ _).trans ?_
  rw [h0, h1, h2, h3, h4]
  exact (Cert.SegMlp.results_eq m hpre c).symm

/-- The claim. -/
theorem claim : Cert.Claim :=
  ⟨Cert.Kernel.Gen.facts, Cert.KernelIdeal.Gen.facts, Cert.ReferenceIdeal.Gen.facts, Cert.Pre_clamp_idle.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, preserves, algebraic⟩

end Cert.Proof

end
